-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_is_one [hPre_mask_is_one : Cert.Pre_mask_is_one.Facts] (m : (ℓ : Loc Cert.KernelIdeal.nD Cert.KernelIdeal.τ Cert.KernelIdeal.sig) → Buf (Elt Ideal) ℓ) : Prop :=
  ∀ c : Dev Cert.KernelIdeal.nD,
    (Cert.Pre_mask_is_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_is_one [hPre_mask_is_one : Cert.Pre_mask_is_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_is_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_mask_is_one [hKernelIdeal : Cert.KernelIdeal.Facts] [hPre_mask_is_one : Cert.Pre_mask_is_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_is_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_mask_is_one [hReferenceIdeal : Cert.ReferenceIdeal.Facts] [hPre_mask_is_one : Cert.Pre_mask_is_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_is_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_mask_is_one [hKernelIdeal : Cert.KernelIdeal.Facts] [hReferenceIdeal : Cert.ReferenceIdeal.Facts] [hPre_mask_is_one : Cert.Pre_mask_is_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_is_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_mask_is_one : Cert.Pre_mask_is_one.Facts),
    quiescent_Kernel (hKernel := hKernel)
    ∧ quiescent_KernelIdeal (hKernelIdeal := hKernelIdeal)
    ∧ quiescent_KernelIdeal_pre_mask_is_one (hKernelIdeal := hKernelIdeal) (hPre_mask_is_one := hPre_mask_is_one)
    ∧ quiescent_ReferenceIdeal (hReferenceIdeal := hReferenceIdeal)
    ∧ quiescent_ReferenceIdeal_pre_mask_is_one (hReferenceIdeal := hReferenceIdeal) (hPre_mask_is_one := hPre_mask_is_one)
    ∧ preserves_Kernel_KernelIdeal
    ∧ algebraic_KernelIdeal_ReferenceIdeal_pre_mask_is_one (hKernelIdeal := hKernelIdeal) (hReferenceIdeal := hReferenceIdeal) (hPre_mask_is_one := hPre_mask_is_one)
-- ==== Pre_mask_is_one.lean ====
abbrev S4x1024x3 : Shape := ⟨3, ![4, 1024, 3]⟩
abbrev S4x1024x1024 : Shape := ⟨3, ![4, 1024, 1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel

variable [Facts]

def fn {F : FTy → Type} [FloatOps F] (main_arg0 : FVec F S4x1024x3 .f32) (main_arg1 : FVec F S4x1024x1024 .f32) : IVec S_ 1 :=
  let main_cst : FVec F S_ .f32 := constant S_ .f32 0x3F800000#32
  let main_v0 : FVec F S4x1024x1024 .f32 := broadcastInDim S4x1024x1024 ![] bcast_S_S4x1024x1024 main_cst
  let main_v1 : IVec S4x1024x1024 1 := cmpf .oeq main_arg1 main_v0
  let main_c : IVec S_ 1 := constantI S_ 1 1#1
  let main_v2 : IVec S_ 1 := (fun x v => Host.reduce IntOp.andi x v reducesTo_S4x1024x1024_S_d0_1_2 h_S_) main_v1 main_c
  main_v2
-- ==== Kernel.lean ====
abbrev S4x1024x3 : Shape := ⟨3, ![4, 1024, 3]⟩
abbrev S4x1024x1024 : Shape := ⟨3, ![4, 1024, 1024]⟩
abbrev S16x1024 : Shape := ⟨2, ![16, 1024]⟩
abbrev S3x4x1024 : Shape := ⟨3, ![3, 4, 1024]⟩
abbrev S12x1024 : Shape := ⟨2, ![12, 1024]⟩
abbrev S4x1024x16x1024 : Shape := ⟨4, ![4, 1024, 16, 1024]⟩
abbrev S1x128x3 : Shape := ⟨3, ![1, 128, 3]⟩
abbrev S1x128x16x1024 : Shape := ⟨4, ![1, 128, 16, 1024]⟩
abbrev S1x128x1 : Shape := ⟨3, ![1, 128, 1]⟩
abbrev S128x1 : Shape := ⟨2, ![128, 1]⟩
abbrev S1x1024 : Shape := ⟨2, ![1, 1024]⟩
abbrev S128x1024 : Shape := ⟨2, ![128, 1024]⟩
abbrev S128x1x1024 : Shape := ⟨3, ![128, 1, 1024]⟩
abbrev S128x16x1024 : Shape := ⟨3, ![128, 16, 1024]⟩
abbrev S1x16x1024 : Shape := ⟨3, ![1, 16, 1024]⟩
abbrev S4x1024x1024x16 : Shape := ⟨4, ![4, 1024, 1024, 16]⟩

abbrev nBuf : Space → Nat
  | .hbm => 7
  | .vmem => 6
  | .smem => 0
  | _ => 0

abbrev bufTy : (tb : Table) → Fin (tcTables nBuf tb) → BufTy
  | .hbm, ⟨0, _⟩ => ⟨S4x1024x3, .f32⟩
  | .hbm, ⟨1, _⟩ => ⟨S4x1024x1024, .f32⟩
  | .hbm, ⟨2, _⟩ => ⟨S16x1024, .f32⟩
  | .hbm, ⟨3, _⟩ => ⟨S3x4x1024, .f32⟩
  | .hbm, ⟨4, _⟩ => ⟨S12x1024, .f32⟩
  | .hbm, ⟨5, _⟩ => ⟨S4x1024x16x1024, .f32⟩
  | .hbm, ⟨6, _⟩ => ⟨S4x1024x1024x16, .f32⟩
  | .local _ .vmem, ⟨0, _⟩ => ⟨S1x128x3, .f32⟩
  | .local _ .vmem, ⟨1, _⟩ => ⟨S1x128x3, .f32⟩
  | .local _ .vmem, ⟨2, _⟩ => ⟨S12x1024, .f32⟩
  | .local _ .vmem, ⟨3, _⟩ => ⟨S16x1024, .f32⟩
  | .local _ .vmem, ⟨4, _⟩ => ⟨S1x128x16x1024, .f32⟩
  | .local _ .vmem, ⟨5, _⟩ => ⟨S1x128x16x1024, .f32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def k0_off1 (i : grid0.Coords) (c0_i32 : BitVec 32) : Fin 2 → Nat :=
  let arg0 : BitVec 32 := BitVec.ofNat 32 (i 0).val
  let v2 : BitVec 32 := Scalar.addi c0_i32 arg0
  let v3 : Index := Scalar.indexCast v2
  let c0_2 : Index := 0#32
  ![v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S12x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x1024x3 : Shape := ⟨3, ![4, 1024, 3]⟩
abbrev S4x1024x1024 : Shape := ⟨3, ![4, 1024, 1024]⟩
abbrev S4x1024x1x3 : Shape := ⟨4, ![4, 1024, 1, 3]⟩
abbrev S4x1x1024x3 : Shape := ⟨4, ![4, 1, 1024, 3]⟩
abbrev S4x1024x1024x3 : Shape := ⟨4, ![4, 1024, 1024, 3]⟩
abbrev S_ : Shape := ⟨0, ![]⟩
abbrev S14 : Shape := ⟨1, ![14]⟩
abbrev S1 : Shape := ⟨1, ![1]⟩
abbrev S15 : Shape := ⟨1, ![15]⟩
abbrev S4x1024x1024x1 : Shape := ⟨4, ![4, 1024, 1024, 1]⟩
abbrev S1x1x1x15 : Shape := ⟨4, ![1, 1, 1, 15]⟩
abbrev S4x1024x1024x15 : Shape := ⟨4, ![4, 1024, 1024, 15]⟩
abbrev S1x1x1x16 : Shape := ⟨4, ![1, 1, 1, 16]⟩
abbrev S4x1024x1024x16 : Shape := ⟨4, ![4, 1024, 1024, 16]⟩

abbrev nBuf : Space → Nat
  | .hbm => 51
  | .vmem => 0
  | .smem => 0
  | _ => 0

abbrev bufTy : (tb : Table) → Fin (tcTables nBuf tb) → BufTy
  | .hbm, ⟨0, _⟩ => ⟨S4x1024x3, .f32⟩
  | .hbm, ⟨1, _⟩ => ⟨S4x1024x1024, .f32⟩
  | .hbm, ⟨2, _⟩ => ⟨S4x1024x1x3, .f32⟩
  | .hbm, ⟨3, _⟩ => ⟨S4x1x1024x3, .f32⟩
  | .hbm, ⟨4, _⟩ => ⟨S4x1024x1024x3, .f32⟩
  | .hbm, ⟨5, _⟩ => ⟨S4x1024x1024x3, .f32⟩
  | .hbm, ⟨6, _⟩ => ⟨S4x1024x1024x3, .f32⟩
  | .hbm, ⟨7, _⟩ => ⟨S4x1024x1024x3, .f32⟩
  | .hbm, ⟨8, _⟩ => ⟨S_, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S14, .f32⟩
  | .hbm, ⟨19, _⟩ => ⟨S_, .f32⟩
  | .hbm, ⟨20, _⟩ => ⟨S14, .f32⟩
  | .hbm, ⟨21, _⟩ => ⟨S14, .f32⟩
  | .hbm, ⟨22, _⟩ => ⟨S1, .f32⟩
  | .hbm, ⟨23, _⟩ => ⟨S_, .f32⟩
  | .hbm, ⟨24, _⟩ => ⟨S14, .f32⟩
  | .hbm, ⟨25, _⟩ => ⟨S14, .f32⟩
  | .hbm, ⟨26, _⟩ => ⟨S14, .f32⟩
  | .hbm, ⟨27, _⟩ => ⟨S14, .f32⟩
  | .hbm, ⟨28, _⟩ => ⟨S1, .f32⟩
  | .hbm, ⟨29, _⟩ => ⟨S14, .f32⟩
  | .hbm, ⟨30, _⟩ => ⟨S14, .f32⟩
  | .hbm, ⟨31, _⟩ => ⟨S14, .f32⟩
  | .hbm, ⟨32, _⟩ => ⟨S1, .f32⟩
  | .hbm, ⟨33, _⟩ => ⟨S15, .f32⟩
  | .hbm, ⟨34, _⟩ => ⟨S4x1024x1024x1, .f32⟩
  | .hbm, ⟨35, _⟩ => ⟨S1x1x1x15, .f32⟩
  | .hbm, ⟨36, _⟩ => ⟨S4x1024x1024x15, .f32⟩
  | .hbm, ⟨37, _⟩ => ⟨S4x1024x1024x15, .f32⟩
  | .hbm, ⟨38, _⟩ => ⟨S4x1024x1024x15, .i1⟩
  | .hbm, ⟨39, _⟩ => ⟨S4x1024x1024x15, .i32⟩
  | .hbm, ⟨40, _⟩ => ⟨S_, .i32⟩
  | .hbm, ⟨41, _⟩ => ⟨S4x1024x1024, .i32⟩
  | .hbm, ⟨42, _⟩ => ⟨S4x1024x1024x1, .i32⟩
  | .hbm, ⟨43, _⟩ => ⟨S1x1x1x16, .i32⟩
  | .hbm, ⟨44, _⟩ => ⟨S4x1024x1024x16, .i32⟩
  | .hbm, ⟨45, _⟩ => ⟨S4x1024x1024x16, .i32⟩
  | .hbm, ⟨46, _⟩ => ⟨S4x1024x1024x16, .i1⟩
  | .hbm, ⟨47, _⟩ => ⟨S4x1024x1024x16, .f32⟩
  | .hbm, ⟨48, _⟩ => ⟨S4x1024x1024x1, .f32⟩
  | .hbm, ⟨49, _⟩ => ⟨S4x1024x1024x16, .f32⟩
  | .hbm, ⟨50, _⟩ => ⟨S4x1024x1024x16, .f32⟩
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩

abbrev nD : Nat := 1
abbrev τ : Topo := Topo.v7x

variable {F : FTy → Type} [FloatOps F]
-- ==== Proof.Literal.lean ====
/- The kernel's table of bin numbers: a constant of 16 rows and 1024 columns whose row `b` holds the number `b`. -/
module

public import proofs.«01_k».proof.KernelIdeal
public import Idealize.ShloMosaic.Lib.IdealHost

@[expose] public section

set_option maxRecDepth 16384

noncomputable section

namespace Cert.KernelIdeal.Literal

open Idealize.ShloMosaic Cert.KernelIdeal

/-- The single-precision word of the number `b`, for `b` below 16. -/
def word : Nat → BitVec 32
  | 0 => 0x00000000#32
  | 1 => 0x3F800000#32
  | 2 => 0x40000000#32
  | 3 => 0x40400000#32
  | 4 => 0x40800000#32
  | 5 => 0x40A00000#32
  | 6 => 0x40C00000#32
  | 7 => 0x40E00000#32
  | 8 => 0x41000000#32
  | 9 => 0x41100000#32
  | 10 => 0x41200000#32
  | 11 => 0x41300000#32
  | 12 => 0x41400000#32
  | 13 => 0x41500000#32
  | 14 => 0x41600000#32
  | _ => 0x41700000#32

/-- The word of the number `b` is read as the real `b`. -/
theorem ofBits_word (b : Fin 16) : Ideal.ofBits .f32 (word b.val) = ((b.val : ℝ) : EReal) := by
  fin_cases b <;> simp [word, Ideal.ofBits, Ideal.ieee, -EReal.coe_mul] <;> norm_num

/-- The table, read in chunks of 128: the entry `i` of chunk `j` is the word of the number of the row it lies in. -/
theorem chunk : ∀ j i : Fin 128, lit0t (128 * j.val + i.val) = word ((128 * j.val + i.val) / 1024) := by
  decide +kernel

/-- The table's entry at row-major position `k` is the word of `k`'s row. -/
theorem lit0_eq (k : Fin 16384) : lit0 k = word (k.val / 1024) := by
  obtain ⟨k, hk⟩ := k
  have h := chunk ⟨k / 128, by omega⟩ ⟨k % 128, Nat.mod_lt _ (by omega)⟩
  have e : 128 * (k / 128) + k % 128 = k := Nat.div_add_mod k 128
  simp only [e] at h
  exact h

end Cert.KernelIdeal.Literal

end
-- ==== Proof.Operands.lean ====
/- What the kernel's region finds in its operands: the coordinates as rows, and the table of bin numbers. -/
module

public import proofs.«01_k».proof.Proof.Gen.KernelIdeal.Frame
public import proofs.«01_k».proof.Proof.Literal
public import Idealize.ShloMosaic.Lib.Pipeline.ValueKit
public import Idealize.ShloMosaic.Lib.Claim

@[expose] public section

set_option maxRecDepth 16384

noncomputable section

namespace Cert.KernelIdeal.Operands

open Idealize.ShloMosaic Idealize.ShloMosaic.TcCoe Idealize.SL.Sem
open Cert.KernelIdeal Cert.KernelIdeal.Gen

variable (m : (ℓ : Loc nD τ sig) → Buf (Elt Ideal) ℓ)

/-- The rows' operand is the points with the coordinate moved to the front, as twelve rows. -/
theorem rows_eq (c : Dev nD) : (V m c main_v1 : FVec Ideal S12x1024 .f32)
    = shapeCast S12x1024 (transpose S3x4x1024 [2, 0, 1] (m ((c : Thread nD τ).loc main_arg0))
        transposes_S4x1024x3_S3x4x1024_2_0_1) shapeCasts_S3x4x1024_S12x1024 := by
  show StableHlo.after [hostOps0].flatten (fun b => m (c, b)) (Proc.tc.devRef main_v1) = _
  simp only [hostOps0, List.flatten_cons, List.flatten_nil, List.append_nil]
  after_results
  rfl

/-- Row `4 k + a` of the operand is the coordinate `k` of the points of structure `a`. -/
theorem rows_at (c : Dev nD) (k : Fin 3) (a : Fin 4) (j : Fin 1024) (i : Fin 12) (h : i.val = 4 * k.val + a.val) :
    (V m c main_v1 : FVec Ideal S12x1024 .f32) (ix2 i j) = m ((c : Thread nD τ).loc main_arg0) (ix3 a j k) := by
  rw [rows_eq]
  pointwise
  blk_ext

/-- The table's operand is the constant. -/
theorem table_eq (c : Dev nD) : (V m c main_cst : FVec Ideal S16x1024 .f32)
    = fun i : S16x1024.Idx => FloatOps.ofBits (F := Ideal) .f32 (lit0 (S16x1024.rowMajor i)) := by
  show StableHlo.after [hostOps0].flatten (fun b => m (c, b)) (Proc.tc.devRef main_cst) = _
  simp only [hostOps0, List.flatten_cons, List.flatten_nil, List.append_nil]
  after_results
  rfl

/-- Row `b` of the table holds the number `b`. -/
theorem table_at (c : Dev nD) (b : Fin 16) (j : Fin 1024) :
    (V m c main_cst : FVec Ideal S16x1024 .f32) (ix2 b j) = ((b.val : ℝ) : EReal) := by
  rw [table_eq]
  have hk : (S16x1024.rowMajor (ix2 b j)).val = b.val * 1024 + j.val := Shape.rowMajor_val_two (ix2 b j)
  have hb : (b.val * 1024 + j.val) / 1024 = b.val := by
    have := j.isLt
    omega
  exact (congrArg (Ideal.ofBits .f32) ((Literal.lit0_eq _).trans
    (congrArg (fun n => Literal.word (n / 1024)) hk))).trans (by rw [hb]; exact Literal.ofBits_word b)

end Cert.KernelIdeal.Operands

end
-- ==== Proof.Bins.lean ====
/- The arithmetic of the bins, on one distance. The kernel multiplies a distance by seven, rounds up and caps the
   result at fifteen; the reference counts the fifteen limits 0, 1/7, …, 14/7 that lie below the distance. For a
   distance that isn't negative, infinity included, the two are the same number. -/
module

public import Idealize.ShloMosaic.Lib.IdealHost
public import Idealize.ShloMosaic.Lib.IndicatorCount

@[expose] public section

noncomputable section

namespace Cert.Bins

open Idealize.ShloMosaic

/-- The word of seven. -/
theorem ofBits_seven : Ideal.ofBits .f32 0x40E00000#32 = ((7 : ℝ) : EReal) := by
  simp [Ideal.ofBits, Ideal.ieee, -EReal.coe_mul]; norm_num

/-- The word of fifteen. -/
theorem ofBits_fifteen : Ideal.ofBits .f32 0x41700000#32 = ((15 : ℝ) : EReal) := by
  simp [Ideal.ofBits, Ideal.ieee, -EReal.coe_mul]; norm_num

/-- The word of fourteen. -/
theorem ofBits_fourteen : Ideal.ofBits .f32 0x41600000#32 = ((14 : ℝ) : EReal) := by
  simp [Ideal.ofBits, Ideal.ieee, -EReal.coe_mul]; norm_num

/-- The word of two. -/
theorem ofBits_two : Ideal.ofBits .f32 0x40000000#32 = ((2 : ℝ) : EReal) := by
  simp [Ideal.ofBits, Ideal.ieee, -EReal.coe_mul]; norm_num

/-- The kernel's bin number of a distance `d`: seven times `d`, rounded up, at most fifteen. -/
def bin (d : EReal) : EReal := min (Ideal.liftRound Int.ceil (d * ((7 : ℝ) : EReal))) ((15 : ℝ) : EReal)

/-- One where `b` is the bin number of the distance `d`, zero elsewhere. -/
def hot (d : EReal) (b : Fin 16) : EReal := if bin d = ((b.val : ℝ) : EReal) then 1 else 0

/-- The distance of two points of three coordinates. -/
def dist (p q : Fin 3 → EReal) : EReal := Ideal.sqrt (∑ k, (p k - q k) * (p k - q k))

/-- The limit number `k`: `k` sevenths. -/
def limit (k : Fin 15) : EReal := (((k.val : ℝ) / 7 : ℝ) : EReal)

/-- How many of the fifteen limits lie below `d`. -/
def below (d : EReal) : ℕ := (Finset.univ.filter fun k : Fin 15 => limit k < d).card

/-- The numbers below fifteen that are less than `n` are `n` of them, or all fifteen. -/
theorem card_lt (n : ℕ) : (Finset.univ.filter fun k : Fin 15 => k.val < n).card = min n 15 := by
  rcases Nat.lt_or_ge n 15 with h | h
  · interval_cases n <;> decide
  · rw [min_eq_right h, Finset.filter_true_of_mem fun k _ => lt_of_lt_of_le k.isLt h]
    rfl

/-- A limit lies below the real `r` when its number is less than seven times `r` rounded up. -/
theorem limit_lt_coe (k : Fin 15) (r : ℝ) : limit k < (r : EReal) ↔ k.val < ⌈r * 7⌉₊ := by
  rw [limit, EReal.coe_lt_coe_iff, Nat.lt_ceil, div_lt_iff₀ (by norm_num)]

/-- For a distance that isn't negative the kernel's bin number is the count of the limits below it. -/
theorem bin_eq_below (d : EReal) (hd : 0 ≤ d) : bin d = ((below d : ℝ) : EReal) := by
  induction d with
  | bot => exact absurd hd (by simp)
  | top =>
    have h : below ⊤ = 15 := by
      have ht : ∀ k ∈ (Finset.univ : Finset (Fin 15)), limit k < ⊤ := fun k _ => EReal.coe_lt_top _
      rw [below, Finset.filter_true_of_mem ht]
      rfl
    rw [h, bin, EReal.top_mul_coe_of_pos (by norm_num)]
    rw [Ideal.liftRound_top, min_eq_right le_top]
    norm_num
  | coe r =>
    have hr : 0 ≤ r := EReal.coe_nonneg.mp hd
    have h : below (r : EReal) = min ⌈r * 7⌉₊ 15 := by
      rw [below, ← card_lt]
      exact congrArg Finset.card (Finset.filter_congr fun k _ => limit_lt_coe k r)
    have hc : (⌈r * 7⌉ : ℝ) = (⌈r * 7⌉₊ : ℝ) := (natCast_ceil_eq_intCast_ceil (by positivity)).symm
    rw [h, bin, ← EReal.coe_mul]
    show min (((⌈r * 7⌉ : ℝ) : EReal)) _ = _
    rw [hc, Nat.cast_min, ← EReal.coe_strictMono.monotone.map_min]
    norm_num

/-- The kernel's comparison of the bin number with `b`, as the reference's comparison of 32-bit words. -/
theorem hot_eq (d : EReal) (hd : 0 ≤ d) (b : Fin 16) :
    hot d b
      = FloatOps.uitofp (F := Ideal) .f32 (IntOp.cmpi .eq
          (Finset.univ.fold IntOp.addi 0#32 fun k : Fin 15 => (BitVec.ofBool (decide (limit k < d))).setWidth 32)
          (BitVec.ofNat 32 b.val)) := by
  have hn : below d ≤ 15 := (Finset.card_filter_le _ _).trans (by simp)
  have hf : (Finset.univ.filter fun k : Fin 15 => BitVec.ofBool (decide (limit k < d)) = 1#1).card = below d := by
    refine congrArg Finset.card (Finset.filter_congr fun k _ => ?_)
    by_cases h : limit k < d <;> simp [h]
  rw [hot, IndicatorCount.fold_addi_setWidth_eq_card, hf, bin_eq_below d hd]
  have hb := b.isLt
  by_cases h : below d = b.val
  · rw [h, if_pos rfl]
    simp [IntOp.cmpi, FloatOps.uitofp]
  · have h1 : ¬((below d : ℝ) : EReal) = ((b.val : ℝ) : EReal) := by
      rw [EReal.coe_eq_coe_iff]
      exact_mod_cast h
    have h2 : ¬BitVec.ofNat 32 (below d) = BitVec.ofNat 32 b.val := fun e => h (by
      have := congrArg BitVec.toNat e
      simp only [BitVec.toNat_ofNat] at this
      omega)
    rw [if_neg h1]
    simp [IntOp.cmpi, beq_eq_false_iff_ne.mpr h2, FloatOps.uitofp]

/-- The square of an extended real isn't negative. -/
theorem mul_self_nonneg (x : EReal) : 0 ≤ x * x := by
  induction x with
  | bot => simp
  | top => simp
  | coe r => exact_mod_cast _root_.mul_self_nonneg r

/-- The square root of a number that isn't negative isn't negative. -/
theorem sqrt_nonneg (s : EReal) (hs : 0 ≤ s) : 0 ≤ Ideal.sqrt s := by
  induction s with
  | bot => exact absurd hs (by simp)
  | top => exact le_top
  | coe r =>
    have hr : ¬r < 0 := not_lt.mpr (EReal.coe_nonneg.mp hs)
    show (0 : EReal) ≤ if r < 0 then ⊥ else ((Real.sqrt r : ℝ) : EReal)
    rw [if_neg hr]
    exact EReal.coe_nonneg.mpr (Real.sqrt_nonneg r)

/-- A distance isn't negative. -/
theorem dist_nonneg (p q : Fin 3 → EReal) : 0 ≤ dist p q :=
  sqrt_nonneg _ (Finset.sum_nonneg fun _ _ => mul_self_nonneg _)

end Cert.Bins

end
-- ==== Proof.Array.lean ====
/- The kernel's output array: what one grid point stores, what the array holds after the last point, and what the
   transpose after it leaves. -/
module

public import proofs.«01_k».proof.Proof.Operands
public import proofs.«01_k».proof.Proof.Bins

@[expose] public section

set_option maxRecDepth 16384

noncomputable section

namespace Cert.KernelIdeal.Array

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- Where each window's block lies at a grid point: the points' and the output's at structure and tile, the rows and
    the table whole. -/
theorem idx : ∀ t : Fin cfg0.N, win0_0.index t = ![(grid0.coords t 0).val, (grid0.coords t 1).val, 0]
    ∧ win0_1.index t = ![0, 0] ∧ win0_2.index t = ![0, 0]
    ∧ win0_3.index t = ![(grid0.coords t 0).val, (grid0.coords t 1).val, 0, 0] :=
  (by decide +kernel : ∀ t : Fin grid0.N, _)

/-- The rows that a grid point loads: the structure's, one of each coordinate. -/
theorem off : ∀ t : Fin cfg0.N, k0_off1 (grid0.coords t) 0#32 = ![(grid0.coords t 0).val, 0]
    ∧ k0_off1 (grid0.coords t) 4#32 = ![4 + (grid0.coords t 0).val, 0]
    ∧ k0_off1 (grid0.coords t) 8#32 = ![8 + (grid0.coords t 0).val, 0] :=
  (by decide +kernel : ∀ t : Fin grid0.N, _)

/-- The one-hot array of the points `x`, the bin on the axis before the last. -/
def hots (x : FVec Ideal S4x1024x3 .f32) : FVec Ideal S4x1024x16x1024 .f32 := fun i =>
  Bins.hot (Bins.dist (fun k => x (ix3 (i 0) (i 1) k)) (fun k => x (ix3 (i 0) (i 3) k))) (i 2)

/-- A tile's coordinate is the points' at the place that the block index has in the output. -/
theorem tile_at (c : Dev nD) (t : Fin cfg0.N) (y : S1x128x16x1024.Idx) (k : Fin 3) :
    V m c main_arg0 ((win0_0.blk t).view.emb (ix3 0 (y 1) k))
      = m ((c : Thread nD τ).loc main_arg0) (ix3 ((win0_3.blk t).view.emb y 0) ((win0_3.blk t).view.emb y 1) k) := by
  blk_ext [V, idx t]

/-- A loaded row's coordinate is the points' at the place that the block index has in the output. -/
theorem row_at (c : Dev nD) (t : Fin cfg0.N) (y : S1x128x16x1024.Idx) (k : Fin 3) (r : Fin 12) (q : Fin 1024)
    (hr : r.val = 4 * k.val + (grid0.coords t 0).val) (hq : q.val = (y 3).val) :
    V m c main_v1 ((win0_1.blk t).view.emb (ix2 r q))
      = m ((c : Thread nD τ).loc main_arg0) (ix3 ((win0_3.blk t).view.emb y 0) ((win0_3.blk t).view.emb y 3) k) := by
  have e : (win0_1.blk t).view.emb (ix2 r q) = ix2 r ((win0_3.blk t).view.emb y 3) := by
    blk_ext [idx t]
  rw [e]
  refine Operands.rows_at m c k ((win0_3.blk t).view.emb y 0) ((win0_3.blk t).view.emb y 3) r ?_
  blk_simp [idx t]
  omega

/-- The table's entry at a block index is the number of the index's bin. -/
theorem entry_at (c : Dev nD) (t : Fin cfg0.N) (y : S1x128x16x1024.Idx) :
    V m c main_cst ((win0_2.blk t).view.emb (ix2 (y 2) (y 3))) = (((y 2).val : ℝ) : EReal) := by
  have e : (win0_2.blk t).view.emb (ix2 (y 2) (y 3)) = ix2 (y 2) (y 3) := by
    blk_ext [idx t]
  rw [e]
  exact Operands.table_at m c _ _

/-- What a grid point stores at a block index is the one-hot array at the place that the block index has there. -/
theorem point (c : Dev nD) (t : Fin cfg0.N) (y : S1x128x16x1024.Idx) (h0 h1 h2) : k0_pay1
      (k0_pay2 (View.ld (iblk m c 0 t) (Rect.unit ![0, 0, 0] ![1, 128, 1] inb_S1x128x3_S1x128x1_0_0_0))
        (View.ld (iblk m c 1 t) (Rect.unit (k0_off1 (grid0.coords t) 0#32) ![1, 1024] h0))
        (View.ld (iblk m c 0 t) (Rect.unit ![0, 0, 1] ![1, 128, 1] inb_S1x128x3_S1x128x1_0_0_1))
        (View.ld (iblk m c 1 t) (Rect.unit (k0_off1 (grid0.coords t) 4#32) ![1, 1024] h1))
        (View.ld (iblk m c 0 t) (Rect.unit ![0, 0, 2] ![1, 128, 1] inb_S1x128x3_S1x128x1_0_0_2))
        (View.ld (iblk m c 1 t) (Rect.unit (k0_off1 (grid0.coords t) 8#32) ![1, 1024] h2)))
      (iblk m c 2 t) y
    = hots (m ((c : Thread nD τ).loc main_arg0)) (((cfg0.win 3).blk t).view.emb y) := by
  obtain ⟨o0, o1, o2⟩ := off t
  pointwise [k0_pay1, k0_pay2, hots, Bins.hot, Bins.bin, Bins.dist]
  blk_simp [iblk, idx t, o0, o1, o2]
  rw [tile_at m c t y 0, tile_at m c t y 1, tile_at m c t y 2,
    row_at m c t y 0, row_at m c t y 1, row_at m c t y 2,
    entry_at m c t y, Bins.ofBits_seven, Bins.ofBits_fifteen, Fin.sum_univ_three]
  all_goals first | rfl | exact (Nat.zero_add _).symm

/-- After the last grid point the output array is the one-hot array. -/
theorem final (c : Dev nD) : (dats m 0 c).arrAt 3 (cfgs 0).N = hots (m ((c : Thread nD τ).loc main_arg0)) := by
  refine (dats m 0 c).arrAt_eq_of_covers 3 _ (by decide +kernel) fun t _ y => ?_
  blk_simp
  rw [after0_3]
  unfold outsAt0
  frame_out
  exact point m c t y _ _ _

/-- The program's result is the one-hot array with the bin moved to the last axis. -/
theorem result (c : Dev nD) : Pipeline.afterTail₀ cfgs (dats m) 0 (V0 m) [hostOps1] c main_v3
    = transpose S4x1024x1024x16 [0, 1, 3, 2] (hots (m ((c : Thread nD τ).loc main_arg0)))
        transposes_S4x1024x16x1024_S4x1024x1024x16_0_1_3_2 := by
  unfold Pipeline.afterTail₀
  simp only [hostOps1, List.flatten_cons, List.flatten_nil, List.append_nil]
  after_results
  exact congrArg (fun X : FVec Ideal S4x1024x16x1024 .f32 =>
      transpose S4x1024x1024x16 [0, 1, 3, 2] X transposes_S4x1024x16x1024_S4x1024x1024x16_0_1_3_2)
    ((Pipeline.withArrays_arr spec0 (by decide) c _ _ 3).trans (final m c))

/-- The program's result at an index. -/
theorem result_at (x : FVec Ideal S4x1024x3 .f32) (a : Fin 4) (i j : Fin 1024) (b : Fin 16) :
    transpose S4x1024x1024x16 [0, 1, 3, 2] (hots x) transposes_S4x1024x16x1024_S4x1024x1024x16_0_1_3_2 (ix4 a i j b)
      = Bins.hot (Bins.dist (fun k => x (ix3 a i k)) (fun k => x (ix3 a j k))) b := by
  pointwise [hots]

end Cert.KernelIdeal.Array

end
-- ==== Proof.Ref.lean ====
/- What the reference computes at an index: the bin limits, the distance of two points, the count of the limits below
   it, and the one-hot row times the mask. -/
module

public import proofs.«01_k».proof.Proof.Gen.ReferenceIdeal.Run
public import proofs.«01_k».proof.Proof.Bins
public import Idealize.ShloMosaic.Lib.Pointwise

@[expose] public section

set_option maxRecDepth 16384

noncomputable section

namespace Cert.ReferenceIdeal.Result

open Idealize.ShloMosaic Cert.ReferenceIdeal Cert.ReferenceIdeal.Gen

/-- The reference's fifteen limits, as the program writes them. -/
abbrev limits : FVec Ideal S15 .f32 :=
  concatenate S15 0 [⟨S14, (addf (mulf (broadcastInDim S14 ![0] bcast_S1_S14_0 (shapeCast _ (id (constant S_ .f32 0x00000000#32)) shapeCasts_S_S1)) (subf (broadcastInDim S14 ![] bcast_S_S14 (constant S_ .f32 0x3F800000#32)) (Host.divf (sitofp .f32 (iotaInDim S14 32 0)) (broadcastInDim S14 ![] bcast_S_S14 (constant S_ .f32 0x41600000#32))))) (mulf (broadcastInDim S14 ![0] bcast_S1_S14_0 (shapeCast _ (id (constant S_ .f32 0x40000000#32)) shapeCasts_S_S1)) (Host.divf (sitofp .f32 (iotaInDim S14 32 0)) (broadcastInDim S14 ![] bcast_S_S14 (constant S_ .f32 0x41600000#32)))))⟩, ⟨S1, (broadcastInDim S1 ![] bcast_S_S1 (id (constant S_ .f32 0x40000000#32)))⟩] concatenates_S14_S1_S15_d0

/-- The reference's limit number `k` is `k` sevenths. -/
theorem limits_at (k : Fin 15) : limits (ix1 k) = Bins.limit k := by
  pointwise [limits]
  show (if h : k.val < 14 then
      Ideal.ofBits .f32 0x00000000#32
          * (1 - Ideal.div (((BitVec.ofNat 32 k.val).toInt : ℝ) : EReal) (Ideal.ofBits .f32 0x41600000#32))
        + Ideal.ofBits .f32 0x40000000#32
          * Ideal.div (((BitVec.ofNat 32 k.val).toInt : ℝ) : EReal) (Ideal.ofBits .f32 0x41600000#32)
    else Ideal.ofBits .f32 0x40000000#32) = _
  have hk : (BitVec.ofNat 32 k.val).toInt = (k.val : ℤ) := by
    revert k
    decide
  rw [hk, Ideal.ofBits_zero_f32, Bins.ofBits_fourteen, Bins.ofBits_two, Bins.limit]
  split
  · rw [zero_mul, zero_add, Ideal.div_coe (by norm_num), ← EReal.coe_mul, ← EReal.coe_mul, EReal.coe_eq_coe_iff,
      Int.cast_natCast]
    ring
  · have h14 : k.val = 14 := by omega
    rw [h14, EReal.coe_eq_coe_iff]
    norm_num

/-- The reference's distances of all pairs of points. -/
abbrev dist (x : FVec Ideal S4x1024x3 .f32) : FVec Ideal S4x1024x1024 .f32 :=
  Host.sqrt (Host.reduceAdd (mulf (subf (broadcastInDim S4x1024x1024x3 ![0, 1, 2, 3] bcast_S4x1024x1x3_S4x1024x1024x3_0_1_2_3 (broadcastInDim S4x1024x1x3 ![0, 1, 3] bcast_S4x1024x3_S4x1024x1x3_0_1_3 x)) (broadcastInDim S4x1024x1024x3 ![0, 1, 2, 3] bcast_S4x1x1024x3_S4x1024x1024x3_0_1_2_3 (broadcastInDim S4x1x1024x3 ![0, 2, 3] bcast_S4x1024x3_S4x1x1024x3_0_2_3 x))) (subf (broadcastInDim S4x1024x1024x3 ![0, 1, 2, 3] bcast_S4x1024x1x3_S4x1024x1024x3_0_1_2_3 (broadcastInDim S4x1024x1x3 ![0, 1, 3] bcast_S4x1024x3_S4x1024x1x3_0_1_3 x)) (broadcastInDim S4x1024x1024x3 ![0, 1, 2, 3] bcast_S4x1x1024x3_S4x1024x1024x3_0_1_2_3 (broadcastInDim S4x1x1024x3 ![0, 2, 3] bcast_S4x1024x3_S4x1x1024x3_0_2_3 x)))) (constant S_ .f32 0x00000000#32) reducesTo_S4x1024x1024x3_S4x1024x1024_d3 h_S_)

/-- A distance at an index. -/
theorem dist_at (x : FVec Ideal S4x1024x3 .f32) (a : Fin 4) (i j : Fin 1024) : dist x (ix3 a i j)
    = Bins.dist (fun k => x (ix3 a i k)) (fun k => x (ix3 a j k)) := by
  pointwise [dist, Bins.dist]

/-- The reference's count of the limits `l` below each distance. -/
abbrev bins (d : FVec Ideal S4x1024x1024 .f32) (l : FVec Ideal S15 .f32) : IVec S4x1024x1024 32 :=
  Host.reduce IntOp.addi (extui 32 (cmpf .olt (broadcastInDim S4x1024x1024x15 ![0, 1, 2, 3] bcast_S1x1x1x15_S4x1024x1024x15_0_1_2_3 (broadcastInDim S1x1x1x15 ![3] bcast_S15_S1x1x1x15_3 l)) (broadcastInDim S4x1024x1024x15 ![0, 1, 2, 3] bcast_S4x1024x1024x1_S4x1024x1024x15_0_1_2_3 (broadcastInDim S4x1024x1024x1 ![0, 1, 2] bcast_S4x1024x1024_S4x1024x1024x1_0_1_2 d))) natLt_1_32) (constantI S_ 32 0#32) reducesTo_S4x1024x1024x15_S4x1024x1024_d3 h_S_

/-- A count at an index: one word added for each limit below. -/
theorem bins_at (d : FVec Ideal S4x1024x1024 .f32) (l : FVec Ideal S15 .f32) (a : Fin 4) (i j : Fin 1024) : bins d l (ix3 a i j)
    = Finset.univ.fold IntOp.addi 0#32
        fun k : Fin 15 => (BitVec.ofBool (decide (l (ix1 k) < d (ix3 a i j)))).setWidth 32 := by
  pointwise [bins]

/-- The reference's one-hot rows of the bin numbers `n`, times the mask `w`. -/
abbrev oneHot (n : IVec S4x1024x1024 32) (w : FVec Ideal S4x1024x1024 .f32) : FVec Ideal S4x1024x1024x16 .f32 :=
  mulf (uitofp .f32 (cmpi .eq (broadcastInDim S4x1024x1024x16 ![0, 1, 2, 3] bcast_S4x1024x1024x1_S4x1024x1024x16_0_1_2_3 (broadcastInDim S4x1024x1024x1 ![0, 1, 2] bcast_S4x1024x1024_S4x1024x1024x1_0_1_2 n)) (broadcastInDim S4x1024x1024x16 ![0, 1, 2, 3] bcast_S1x1x1x16_S4x1024x1024x16_0_1_2_3 (iotaInDim S1x1x1x16 32 3)))) (broadcastInDim S4x1024x1024x16 ![0, 1, 2, 3] bcast_S4x1024x1024x1_S4x1024x1024x16_0_1_2_3 (broadcastInDim S4x1024x1024x1 ![0, 1, 2] bcast_S4x1024x1024_S4x1024x1024x1_0_1_2 w))

/-- A one-hot row at an index. -/
theorem oneHot_at (n : IVec S4x1024x1024 32) (w : FVec Ideal S4x1024x1024 .f32) (a : Fin 4) (i j : Fin 1024) (b : Fin 16) :
    oneHot n w (ix4 a i j b)
      = FloatOps.uitofp (F := Ideal) .f32 (IntOp.cmpi .eq (n (ix3 a i j)) (BitVec.ofNat 32 b.val)) * w (ix3 a i j) := by
  pointwise [oneHot]

/-- The reference's result under a mask of ones: the one-hot row of the bin of the two points' distance. -/
theorem result_at (x : FVec Ideal S4x1024x3 .f32) (w : FVec Ideal S4x1024x1024 .f32) (hw : ∀ i, w i = (1 : EReal))
    (a : Fin 4) (i j : Fin 1024) (b : Fin 16) : oneHot (bins (dist x) limits) w (ix4 a i j b)
      = Bins.hot (Bins.dist (fun k => x (ix3 a i k)) (fun k => x (ix3 a j k))) b := by
  rw [oneHot_at, hw, mul_one, bins_at, dist_at, Bins.hot_eq _ (Bins.dist_nonneg _ _)]
  simp only [limits_at]

end Cert.ReferenceIdeal.Result

end
-- ==== Proof.Mask.lean ====
/- The precondition read at an index: where the predicate holds, every element of the mask is one. -/
module

public import proofs.«01_k».proof.Pre_mask_is_one
public import Idealize.ShloMosaic.Lib.Pointwise
public import Idealize.ShloMosaic.Lib.IdealHost

@[expose] public section

set_option maxRecDepth 16384

noncomputable section

namespace Cert.Pre_mask_is_one.Read

open Idealize.ShloMosaic Cert.Pre_mask_is_one

/-- The shape facts that the predicate states. -/
theorem facts : Facts where
  bcast_S_S4x1024x1024 := by decide
  reducesTo_S4x1024x1024_S_d0_1_2 := by decide
  h_S_ := by decide

/-- A conjunction of bits that is one has only ones. -/
theorem one_of_fold {ι : Type} (p : ι → BitVec 1) (S : Finset ι) (h : S.fold IntOp.andi 1#1 p = 1#1) :
    ∀ k ∈ S, p k = 1#1 := by
  classical
  have hand : ∀ x y : BitVec 1, IntOp.andi x y = 1#1 → x = 1#1 ∧ y = 1#1 := by decide
  induction S using Finset.induction_on with
  | empty => simp
  | insert a S ha ih =>
    rw [Finset.fold_insert ha] at h
    obtain ⟨h1, h2⟩ := hand _ _ h
    intro k hk
    rcases Finset.mem_insert.mp hk with rfl | hk
    · exact h1
    · exact ih h2 k hk

/-- Where the predicate holds, every element of the mask is one. -/
theorem mask_one [Facts] (x : FVec Ideal S4x1024x3 .f32) (w : FVec Ideal S4x1024x1024 .f32)
    (h : fn x w = fun _ => 1#1) (i : S4x1024x1024.Idx) : w i = (1 : EReal) := by
  have h := congrFun h ix0
  unfold fn at h
  dsimp only at h
  pointwise at h
  have h := one_of_fold _ _ h ⟨i 0, i 1, i 2⟩ (Finset.mem_univ _)
  idx_vars i
  by_contra hne
  simp_all

end Cert.Pre_mask_is_one.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.Ref
public import proofs.«01_k».proof.Proof.Mask
public import Idealize.ShloMosaic.Lib.Quiescent
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The kernel runs, its arguments unchanged and every counter at zero. -/
theorem kernel : quiescent_Kernel (hKernel := Cert.Kernel.Gen.facts) :=
  fun m ρ _ => Cert.Kernel.Gen.frame m ρ

/-- The idealized kernel runs, its arguments unchanged and every counter at zero. -/
theorem kernelIdeal : quiescent_KernelIdeal (hKernelIdeal := Cert.KernelIdeal.Gen.facts) :=
  fun m ρ _ => Cert.KernelIdeal.Gen.frame m ρ

/-- The idealized reference runs, its arguments unchanged and every counter at zero. -/
theorem referenceIdeal : quiescent_ReferenceIdeal (hReferenceIdeal := Cert.ReferenceIdeal.Gen.facts) :=
  fun m ρ _ => (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- The kernel's result and the reference's are one array where the mask is all ones. -/
theorem results_eq (x : FVec Ideal Cert.KernelIdeal.S4x1024x3 .f32) (w : FVec Ideal Cert.KernelIdeal.S4x1024x1024 .f32)
    (hw : ∀ i, w i = (1 : EReal)) :
    Cert.ReferenceIdeal.Result.oneHot
        (Cert.ReferenceIdeal.Result.bins (Cert.ReferenceIdeal.Result.dist x) Cert.ReferenceIdeal.Result.limits) w
      = transpose Cert.KernelIdeal.S4x1024x1024x16 [0, 1, 3, 2] (Cert.KernelIdeal.Array.hots x)
          Cert.KernelIdeal.Gen.transposes_S4x1024x16x1024_S4x1024x1024x16_0_1_3_2 := by
  funext i
  idx_vars i
  rw [Cert.ReferenceIdeal.Result.result_at x w hw, Cert.KernelIdeal.Array.result_at]

/-- From memories that agree on the arguments, with a mask of ones, the idealized kernel and the idealized reference
    end with equal results. -/
theorem algebraic : algebraic_KernelIdeal_ReferenceIdeal_pre_mask_is_one (hKernelIdeal := Cert.KernelIdeal.Gen.facts)
    (hReferenceIdeal := Cert.ReferenceIdeal.Gen.facts) (hPre_mask_is_one := Cert.Pre_mask_is_one.Read.facts) := by
  intro m g m' g' hpre hagree
  refine ⟨fun c => transpose Cert.KernelIdeal.S4x1024x1024x16 [0, 1, 3, 2]
    (Cert.KernelIdeal.Array.hots (m ((c.tc : Thread Cert.KernelIdeal.nD Cert.KernelIdeal.τ).loc Cert.KernelIdeal.main_arg0)))
    Cert.KernelIdeal.Gen.transposes_S4x1024x16x1024_S4x1024x1024x16_0_1_3_2, ?_, ?_⟩
  · run_from Cert.KernelIdeal.Gen.run_main m g
    · exact Cert.KernelIdeal.Array.result m c
    · exact Cert.KernelIdeal.Gen.W_main_arg1 m _ c
  · refine (θ_run Cert.ReferenceIdeal.defs _ _).mono (fun r h c => ⟨(h c).1.trans ?_, (h c).2.1, (h c).2.2⟩)
      (Cert.ReferenceIdeal.Value.run (F := Ideal) m' g')
    rw [(hagree c).1, (hagree c).2]
    haveI := Cert.Pre_mask_is_one.Read.facts
    exact results_eq _ _ (Cert.Pre_mask_is_one.Read.mask_one _ _ (hpre c))

/-- Every claim. -/
theorem claim : Cert.Claim :=
  ⟨Cert.Kernel.Gen.facts, Cert.KernelIdeal.Gen.facts, Cert.ReferenceIdeal.Gen.facts, Cert.Pre_mask_is_one.Read.facts,
    kernel, kernelIdeal, fun m ρ _ => kernelIdeal m ρ trivial, referenceIdeal, fun m ρ _ => referenceIdeal m ρ trivial,
    trivial, algebraic⟩

end Cert.Proof

end
